-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S4096x64 : Shape := ⟨2, ![4096, 64]⟩
abbrev S8x512x4096 : Shape := ⟨3, ![8, 512, 4096]⟩
abbrev S1x512x4096 : Shape := ⟨3, ![1, 512, 4096]⟩
abbrev S512x4096 : Shape := ⟨2, ![512, 4096]⟩
abbrev S512x64 : Shape := ⟨2, ![512, 64]⟩

abbrev nBuf : Space → Nat
  | .hbm => 4
  | .vmem => 4
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S8x512x4096, .f32⟩
  | .hbm, ⟨3, _⟩ => ⟨S4096x64, .f32⟩
  | .local _ .vmem, ⟨0, _⟩ => ⟨S1x512x4096, .f32⟩
  | .local _ .vmem, ⟨1, _⟩ => ⟨S1x512x4096, .f32⟩
  | .local _ .vmem, ⟨2, _⟩ => ⟨S4096x64, .f32⟩
  | .local _ .vmem, ⟨3, _⟩ => ⟨S4096x64, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v4 : BitVec 32 := Scalar.muli arg0 c512_i32
  let v5 : Index := Scalar.indexCast v4
  let c0_4 : Index := 0#32
  ![v5.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x4096 : Shape := ⟨2, ![4096, 4096]⟩
abbrev S4096x64 : Shape := ⟨2, ![4096, 64]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S4096x64, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Body.lean ====
/-
  ONE GRID POINT of the row-tiled product. The kernel's body, run on whole staging buffers: it reads the row block and the
  weights, and stores their product over 512 rows of the resident output block, leaving every other row of that block as it
  found it.
-/
module

public import proofs.«01_k».proof.Proof.Gen.KernelIdeal.Frame
public import proofs.«01_k».proof.Proof.Gen.KernelIdeal.Skeleton
public import Idealize.ShloMosaic.Lib.Pipeline.Value

@[expose] public section

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rows of the output block that grid point `i` stores: 512 rows from row `512 * i`, all 64 columns. -/
abbrev rows (i : grid0.Coords) : Rect S4096x64 := Rect.unit (s := S4096x64) (k0_off1 i) S512x64.size (k0_off1_inb i)

set_option maxHeartbeats 1000000 in
/-- The body at grid point `i`, the row block holding `x`, the weights `w` and the output block `Y`: the inputs are left as they
    were, and the output block holds the product of `x` and `w` on the rows of point `i` and `Y` on all others. -/
theorem body_run (c : Dev nD) (i : grid0.Coords) (a1 : Memref sig .tc .vmem S1x512x4096 .f32) (h1 : a1.IsWhole)
    (a2 : Memref sig .tc .vmem S4096x64 .f32) (h2 : a2.IsWhole) (a3 : Memref sig .tc .vmem S4096x64 .f32) (h3 : a3.IsWhole)
    (x : Vec F S1x512x4096 .f32) (w Y : Vec F S4096x64 .f32) (E : Set ℕ) (K : PUnit → sProp 𝕄) :
    iprop(owns (c : Thread nD τ) a1 fullShare x ∗ owns (c : Thread nD τ) a2 fullShare w ∗ owns (c : Thread nD τ) a3 fullShare Y
        ∗ (iprop(owns (c : Thread nD τ) a1 fullShare x ∗ owns (c : Thread nD τ) a2 fullShare w
            ∗ owns (c : Thread nD τ) a3 fullShare ((rows i).overlay Y (k0_pay1 x w))) -∗ K ⟨⟩))
      ⊢ wp frame (wpE (defs₀ (F := F)) Variants.none c none) E (cc0__matmul_block i a1 h1 a2 h2 a3 h3) K := by
  rw [cc0__matmul_block_eq_skeleton]; unfold cc0__matmul_block_skel
  unfold owns
  iintro ⟨⟨%f1, %hf1, H1⟩, ⟨%f2, %hf2, H2⟩, ⟨%f3, %hf3, H3⟩, Hk⟩
  obtain rfl := h1.eq_unread hf1; obtain rfl := h2.eq_unread hf2; obtain rfl := h3.eq_unread hf3
  sl_exec
  sl_step
  iapply Hk
  isplitl [H1]
  · iexists _; isplitr; · ipureintro; exact h1.read_unread _
    iexact H1
  isplitl [H2]
  · iexists _; isplitr; · ipureintro; exact h2.read_unread _
    iexact H2
  iexists _; isplitr; swap; · iexact H3
  ipureintro
  rw [View.readAt_eq_ld, View.readAt_eq_ld, hf1, hf2,
    View.ld_unit_zero (S := S1x512x4096) (funext fun a => by fin_cases a <;> rfl),
    View.ld_unit_zero (S := S4096x64) (funext fun a => by fin_cases a <;> rfl)]
  funext y
  by_cases hy : y ∈ (rows i).set
  · obtain ⟨z, rfl⟩ := (rows i).exists_idx_of_mem hy
    exact (View.read_writes_cons_emb a3.view _ (rows i) _ [] z).trans ((rows i).overlay_emb _ _ z).symm
  · rw [Rect.overlay_of_not_mem _ _ _ hy, View.writes_cons]
    refine (View.read_slice_write_of_not_mem (rows i) _ _ Finset.univ ?_).trans (congrFun hf3 y)
    rwa [Rect.map_emb_univ]

/-- Row `r` of the 512 rows that grid point `i` stores is row `512 * i + r` of the output block, and there the stored rows win. -/
theorem rows_hit {α : Type} (i : grid0.Coords) (Y : S4096x64.Idx → α) (P : S512x64.Idx → α) (j : S4096x64.Idx) (z : S512x64.Idx)
    (h0 : (j 0).val = 512 * (i 0).val + (z 0).val) (h1 : (j 1).val = (z 1).val) : (rows i).overlay Y P j = P z := by
  have hj : (rows i).emb z = j := funext fun a => Fin.ext (by
    show k0_off1 i a + 1 * (z a).val = (j a).val
    rw [k0_off1_eq]
    fin_cases a
    · show 512 * (i 0).val + 1 * (z 0).val = (j 0).val
      omega
    · show 0 + 1 * (z 1).val = (j 1).val
      omega)
  rw [← hj]
  exact (rows i).overlay_emb Y P z

/-- A row of the output block before the rows of grid point `i` is as it was. -/
theorem rows_below {α : Type} (i : grid0.Coords) (Y : S4096x64.Idx → α) (P : S512x64.Idx → α) (j : S4096x64.Idx)
    (h : (j 0).val < 512 * (i 0).val) : (rows i).overlay Y P j = Y j := by
  refine Rect.overlay_of_not_mem _ _ _ fun hj => ?_
  obtain ⟨z, rfl⟩ := (rows i).exists_idx_of_mem hj
  have hz : (((rows i).idx z) 0).val = k0_off1 i 0 + 1 * (z 0).val := rfl
  have ho : k0_off1 i 0 = 512 * (i 0).val := by rw [k0_off1_eq]; rfl
  omega

end Cert.KernelIdeal.Rows

end
-- ==== Proof.Filled.lean ====
/-
  THE WHOLE RUN of the row-tiled product, for any float values. The output block stays in vector memory from the first grid point
  to the last, and what it holds before a point has stored its rows is nothing the launch decides. So the proof data say of
  it only which rows are stored: after point `t`, the rows of points `0 … t` hold their products. At the last point that is
  every row, and the block is then written back whole.
-/
module

public import proofs.«01_k».proof.Proof.Body
public import Idealize.ShloMosaic.Lib.Pipeline.DatRel
public import Idealize.ShloMosaic.Lib.Pipeline.ArrRel

@[expose] public section

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What grid point `s` on core `c` computes: the product of its block of 512 rows of the first argument and the weights. -/
def prod (c : Dev nD) (s : Fin cfg0.N) : Vec F S512x64 .f32 := k0_pay1 (iblk m c 0 s) (iblk m c 1 s)

/-- The rows of the points up to `t` are in place: row `512 * s + r` of `X` is row `r` of point `s`'s product, for each `s ≤ t`. -/
def Filled (c : Dev nD) (t : Fin cfg0.N) (X : Vec F S4096x64 .f32) : Prop :=
  ∀ s : Fin cfg0.N, s.val ≤ t.val → ∀ (j : S4096x64.Idx) (z : S512x64.Idx),
    (j 0).val = 512 * s.val + (z 0).val → (j 1).val = (z 1).val → X j = prod m c s z

/-- Grid point `t` of the one-axis grid has coordinate `t`. -/
theorem coord_eq (t : Fin cfg0.N) : ((grid0.coords t) 0).val = t.val := by
  revert t; decide

/-- Storing point `t`'s product over a block in which the rows of the earlier points are in place puts its own in place too. -/
theorem filled_step (c : Dev nD) (t : Fin cfg0.N) (Y : Vec F S4096x64 .f32)
    (hY : ∀ s : Fin cfg0.N, s.val < t.val → Filled m c s Y) :
    Filled m c t ((rows (grid0.coords t)).overlay Y (k0_pay1 (iblk m c 0 t) (iblk m c 1 t))) := fun s hs j z h0 h1 => by
  by_cases he : s = t
  · subst he
    exact rows_hit (grid0.coords s) Y _ j z (by rw [coord_eq]; exact h0) h1
  · have hlt : s.val < t.val := Nat.lt_of_le_of_ne hs fun h => he (Fin.ext h)
    have hz : (z 0).val < 512 := (z 0).isLt
    rw [rows_below (grid0.coords t) Y _ j (by rw [coord_eq]; omega)]
    exact hY s hlt s le_rfl j z h0 h1

/-! ## The proof data -/

/-- The output window, the one of which only the stored rows are said. -/
def held : Fin cfg0.W → Bool := fun w => w.val == 2

/-- What is said of the output window after point `t`: the rows of the points up to `t` are in place. -/
def said (c : Dev nD) (w : Fin cfg0.W) (t : Fin cfg0.N) : ((cfg0.win w).block.Idx → Elt F (cfg0.win w).elt) → Prop :=
  match w with
  | ⟨2, _⟩ => Filled m c t
  | _ => fun _ => True

/-- The launch's proof data on core `c`: each array as the host line before the launch leaves it, and each input's staging buffer at its
    block after every point. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Dat.unnamed (cfg := cfg0) ⟨2, h⟩ t
  Φ _ := Pipeline.ΦA spec0 c
  q _ := fullShare
  owed _ := 0

/-- The same data with the output window held to `said`. -/
abbrev rdat (c : Dev nD) : RDat τ (Elt F) Unit ℕ (UR sig nD τ) ℕ cfg0 c := (dat m c).toRRel held (said m c)

/-- The arrays are as the host line before the launch leaves them. -/
theorem dat_A (c : Dev nD) (w : Fin cfg0.W) : (dat m c).A w = V m c (Pipeline.arrRef spec0 w) := by dsimp only [dat]

/-- After each point the first input's staging buffer holds its block. -/
theorem dat_after_0 (c : Dev nD) (t : Fin cfg0.N) : (dat m c).after 0 t = iblk m c 0 t := by dsimp only [dat]

/-- After each point the second input's staging buffer holds its block. -/
theorem dat_after_1 (c : Dev nD) (t : Fin cfg0.N) : (dat m c).after 1 t = iblk m c 1 t := by dsimp only [dat]

/-- What the body finds in the output block at point `t` has the rows of every earlier point in place: the block is written back at the
    last point only, so it is what the point before left. -/
theorem found (c : Dev nD) (t : Fin cfg0.N) (Y : Vec F S4096x64 .f32) (h : (rdat m c).Finds 2 t Y) (s : Fin cfg0.N)
    (hs : s.val < t.val) : Filled m c s Y := by
  have hN : t.val < 8 := t.isLt
  have ht : t.val ≠ 0 := by omega
  rcases ((rdat m c).finds_of_pos (w := 2) (t := t) rfl ht Y).mp h with hf | hl
  · have := (flush0_2 _).mp hf
    simp only at this
    omega
  · have hF : Filled m c ⟨t.val - 1, Nat.lt_of_le_of_lt (Nat.sub_le _ _) t.isLt⟩ Y := (dat m c).toRRel_leaves (w := 2) rfl hl
    exact fun s' hs' => hF s' (by simp only; omega)

/-! ## The body's part -/

/-- The body at point `t`, from the inputs' blocks and an output block with the earlier points' rows in place, leaves the inputs' blocks
    and an output block with its own rows in place too. -/
theorem body_point (c : Dev nD) (t : Fin cfg0.N) :
    iprop((dat m c).Φ t.castSucc ∗ (dat m c).owesAt () t.castSucc
        ∗ (∃ d, owns (c : Thread nD τ) (st0_0 t) fullShare ((dat m c).before 0 t d))
        ∗ (∃ d, owns (c : Thread nD τ) (st0_1 t) fullShare ((dat m c).before 1 t d))
        ∗ (∃ Y, ⌜(rdat m c).Finds 2 t Y⌝ ∗ owns (c : Thread nD τ) (st0_2 t) fullShare Y))
      ⊢ wp frame (wpE (defs₀ (F := F)) Variants.none c none) Set.univ (bodyAt0 t) fun _ =>
        (iprop((dat m c).Φ t.succ ∗ (dat m c).owesAt () t.succ
          ∗ owns (c : Thread nD τ) (st0_0 t) fullShare ((dat m c).after 0 t)
          ∗ owns (c : Thread nD τ) (st0_1 t) fullShare ((dat m c).after 1 t)
          ∗ (∃ X, ⌜said m c 2 t X⌝ ∗ owns (c : Thread nD τ) (st0_2 t) fullShare X)) : sProp 𝕄) := by
  simp only [before0_0_of m (dat m c) (dat_A m c 0) (dat_after_0 m c), before0_1_of m (dat m c) (dat_A m c 1) (dat_after_1 m c)]
  rw [show (dat m c).Φ t.succ = (dat m c).Φ t.castSucc from rfl,
    show (dat m c).owesAt () t.succ = (dat m c).owesAt () t.castSucc from rfl, dat_after_0, dat_after_1]
  iintro ⟨HΦ, Ho, ⟨%d0, H0⟩, ⟨%d1, H1⟩, ⟨%Y, %hY, H2⟩⟩
  iapply (body_run c (grid0.coords t) _ _ _ _ _ _ (iblk m c 0 t) (iblk m c 1 t) Y Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexists _; isplitr; swap; · iexact H2
  ipureintro
  exact filled_step m c t Y (found m c t Y hY)

/-- The launch calls, at point `t`, the body on that point's staging buffers. -/
theorem row_eq (t : Fin cfg0.N) : defs₀ (F := F) .tc cfg0.body (cfg0.bodyArgs t (cfg0.slots t)) = bodyAt0 t := by
  unfold defs₀; rw [Defs.onTc_tc]

/-- The launch's demand on the body, at every point. -/
theorem body_all (c : Dev nD) : Pipeline.BodyObligationRel (dat (F := F) m c) (defs₀ (F := F)) Variants.none () Set.univ held (said m c) := fun t => by
  rw [bigSep_W0, bigSep_W0, row_eq]
  exact triple_restated (body_point m c t) rfl .rfl fun _ => .rfl

/-! ## The launch -/

set_option backward.isDefEq.respectTransparency.types false in
/-- The launch runs to its end from any memory with zero counters, the output array as the held rows allow, and every counter is zero
    again. -/
theorem launched : θ_run defs (onTc (τ := τ) (main (F := F))) (s₀ m ρ)
    (fun r => RDat.FramePost (cfgs 0) (rdat m) (V m) r ∧ r.2.sem = fun _ => 0) :=
  Pipeline.RDat.θ_run_frame (Q' := _) cfgs (0 : Fin 1) launch0 defs₀ Variants.none (rdat m) m ρ main
    (hbody := fun c => (body_all m c).toRRel) (hshare := fun c => (dat m c).share_full fun _ => rfl)
    (howed := fun _ _ => rfl) (V := V m) (hmain := hmain m Variants.none) (hA := dat_A m) (hΦ := fun _ _ => rfl)

/-- The last grid point. -/
abbrev last : Fin cfg0.N := ⟨7, by decide⟩

/-- The kernel runs to its end from any memory with zero counters: on each core every row of the result is that of its point's product, the
    two arguments are as they were, and every semaphore counter is zero. -/
theorem run : θ_run defs (onTc (τ := τ) (main (F := F))) ⟨m, fun _ => 0, ρ⟩ (fun r => (∀ c : Dev nD,
      Filled m c last (r.2.mem ((c.tc : Thread nD τ).loc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => by
    obtain ⟨hP, -⟩ := h
    refine ⟨?_, ((hP c).2 main_arg0 (Pipeline.mem_restRefs_of main_arg0 (by decide) (by decide))).trans (V_main_arg0 m c),
      (RDat.FramePost.arr_in hP c 1 rfl).trans ((dat_A m c 1).trans (V_main_arg1 m c))⟩
    obtain ⟨X, hX, hG⟩ := RDat.ArrAt.emb_eq_of_wholeAt (w := 2) ((hP c).1 2) (t₀ := last) (by decide +kernel)
    have hF : Filled m c last X := (dat m c).toRRel_leaves (w := 2) rfl hX
    have e : r.2.mem ((c.tc : Thread nD τ).loc main_v0) = X := funext fun j => hG j
    rw [e]
    exact hF, h.2⟩) (launched m ρ)

end Cert.KernelIdeal.Rows

end
-- ==== Proof.Equation.lean ====
/-
  THE EQUATION over the extended reals: a 4096 x 64 block whose every row is that of its grid point's product is the product of
  the two arguments, which is what the reference computes. Point `s` reads rows `512 * s` to `512 * s + 511` of the first
  argument through its three-axis reshape, and all of the second; and each of its entries is the sum over the 4096 columns
  that the reference's entry is.
-/
module

public import proofs.«01_k».proof.Proof.Filled
public import proofs.«01_k».proof.Proof.Gen.ReferenceIdeal
public import Idealize.ShloMosaic.Lib.Pointwise
public import Idealize.ShloMosaic.Lib.StableHlo.Run

@[expose] public section

noncomputable section

namespace Cert.KernelIdeal.Rows

open Cert.KernelIdeal Cert.KernelIdeal.Gen
open Idealize.ShloMosaic Idealize.ShloMosaic.TcCoe Idealize.SL.Sem
open Idealize.ShloMosaic.StableHlo

section Blocks

variable {F : FTy → Type} [FloatOps F]
variable (m : (ℓ : Loc nD τ sig) → Buf (Elt F) ℓ)

/-- The first argument on core `c`. -/
abbrev inp (c : Dev nD) : Vec F S4096x4096 .f32 := m ((c : Thread nD τ).loc main_arg0)

/-- The second argument on core `c`. -/
abbrev weight (c : Dev nD) : Vec F S4096x64 .f32 := m ((c : Thread nD τ).loc main_arg1)

/-- The launch finds the first argument reshaped to eight blocks of 512 rows. -/
theorem blocks_eq (c : Dev nD) :
    V m c main_call0_v0 = shapeCast S8x512x4096 (inp m c) shapeCasts_S4096x4096_S8x512x4096 := by
  unfold V
  after_results
  rfl

/-- Entry `(0, r, k)` of point `s`'s block of the first input is entry `(512 * s + r, k)` of the first argument. -/
theorem block_0 (c : Dev nD) (s : Fin cfg0.N) (r : Fin 512) (k R : Fin 4096) (hR : R.val = 512 * s.val + r.val) :
    (iblk m c 0 s : Vec F S1x512x4096 .f32) (ix3 (0 : Fin 1) r k) = inp m c (ix2 R k) := by
  have hi : win0_0.index s 0 = s.val ∧ win0_0.index s 1 = 0 ∧ win0_0.index s 2 = 0 := by
    rcases fin_N0 s with rfl | rfl | rfl | rfl | rfl | rfl | rfl | rfl <;> decide
  unfold iblk
  rw [View.read_apply]
  show V m c main_call0_v0 _ = _
  rw [blocks_eq]
  refine shapeCast_apply _ _ _ _ ?_
  rw [rowMajor_val2 _ 4096 rfl, rowMajor_val3 _ (512 * 4096) 4096 rfl rfl]
  show R.val * 4096 + k.val = (win0_0.index s 0 * 1 + 1 * 0) * (512 * 4096) + (win0_0.index s 1 * 512 + 1 * r.val) * 4096 + (win0_0.index s 2 * 4096 + 1 * k.val)
  rw [hi.1, hi.2.1, hi.2.2, hR]
  omega

/-- Point `s`'s block of the second input is the second argument. -/
theorem block_1 (c : Dev nD) (s : Fin cfg0.N) (j : S4096x64.Idx) :
    (iblk m c 1 s : Vec F S4096x64 .f32) j = weight m c j := by
  have hi : win0_1.index s 0 = 0 ∧ win0_1.index s 1 = 0 := by
    rcases fin_N0 s with rfl | rfl | rfl | rfl | rfl | rfl | rfl | rfl <;> decide
  unfold iblk
  rw [View.read_apply]
  show V m c main_arg1 _ = _
  rw [V_main_arg1]
  refine congrArg (m ((c : Thread nD τ).loc main_arg1)) (funext fun a => Fin.ext ?_)
  match a with
  | ⟨0, _⟩ => show win0_1.index s 0 * 4096 + 1 * (j 0).val = (j 0).val; rw [hi.1]; omega
  | ⟨1, _⟩ => show win0_1.index s 1 * 64 + 1 * (j 1).val = (j 1).val; rw [hi.2]; omega

end Blocks

variable (m : (ℓ : Loc nD τ sig) → Buf (Elt Ideal) ℓ)

/-- What the reference computes of the two arguments on core `c`. -/
abbrev target (c : Dev nD) : Vec Ideal S4096x64 .f32 :=
  Host.dotGeneral (F := Ideal) (φ₁ := .f32) (φ₂ := .f32) Cert.ReferenceIdeal.dot_S4096x4096_S4096x64_S4096x64_1_0_0_1_n_n none (inp m c) (weight m c)

/-- An entry of a block's product is the sum, over the 4096 columns, of the products of the entries. -/
theorem pay_apply (x : Vec Ideal S1x512x4096 .f32) (w : Vec Ideal S4096x64 .f32) (r : Fin 512) (l : Fin 64) :
    k0_pay1 x w (ix2 r l) = ∑ k : Fin 4096, x (ix3 (0 : Fin 1) r k) * w (ix2 k l) := by
  pointwise [k0_pay1]

/-- An entry of the reference's product is the sum, over the 4096 columns, of the products of the entries. -/
theorem target_apply (c : Dev nD) (R : Fin 4096) (l : Fin 64) :
    target m c (ix2 R l) = ∑ k : Fin 4096, inp m c (ix2 R k) * weight m c (ix2 k l) := by
  unfold target
  pointwise

/-- With every row in place, the block is the reference's product. -/
theorem filled_eq (c : Dev nD) (X : Vec Ideal S4096x64 .f32) (h : Filled m c last X) : X = target m c := by
  funext j
  obtain ⟨R, l, rfl⟩ : ∃ (R : Fin 4096) (l : Fin 64), j = ix2 R l := ⟨j 0, j 1, eq_ix2 j⟩
  have hR : R.val < 4096 := R.isLt
  have hd : R.val / 512 < cfg0.N := by show _ < 8; omega
  have hm : R.val % 512 < 512 := Nat.mod_lt _ (by decide)
  have hs : R.val = 512 * (R.val / 512) + R.val % 512 := by omega
  rw [h ⟨R.val / 512, hd⟩ (by show R.val / 512 ≤ 7; omega) (ix2 R l) (ix2 ⟨R.val % 512, hm⟩ l) hs rfl]
  unfold prod
  refine (pay_apply _ _ _ _).trans ((Finset.sum_congr rfl fun k _ => ?_).trans (target_apply m c R l).symm)
  rw [block_0 m c ⟨R.val / 512, hd⟩ ⟨R.val % 512, hm⟩ k R hs, block_1]

end Cert.KernelIdeal.Rows

end
-- ==== Proof.KernelFrame.lean ====
/-
  THE KERNEL'S FRAME, for any float values: it runs to its end without a fault, its two arguments end as they were, and every
  semaphore counter is zero again. Nothing is said here of what the result holds, so the output block is handed to the body
  and taken back at whatever it holds.
-/
module

public import proofs.«01_k».proof.Proof.Gen.Kernel.Frame
public import proofs.«01_k».proof.Proof.Gen.Kernel.Skeleton

@[expose] public section

set_option maxRecDepth 16384

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

set_option maxHeartbeats 1000000 in
/-- The body at grid point `i`, on whole staging buffers: the row block `x` and the weights `w` are left as they were, and the output
    block, found at anything, is left at something. -/
theorem body_safe (c : Dev nD) (i : grid0.Coords) (a1 : Memref sig .tc .vmem S1x512x4096 .f32) (h1 : a1.IsWhole)
    (a2 : Memref sig .tc .vmem S4096x64 .f32) (h2 : a2.IsWhole) (a3 : Memref sig .tc .vmem S4096x64 .f32) (h3 : a3.IsWhole)
    (x : Vec F S1x512x4096 .f32) (w : Vec F S4096x64 .f32) (E : Set ℕ) (K : PUnit → sProp 𝕄) :
    iprop(owns (c : Thread nD τ) a1 fullShare x ∗ owns (c : Thread nD τ) a2 fullShare w ∗ (∃ Y, owns (c : Thread nD τ) a3 fullShare Y)
        ∗ (iprop(owns (c : Thread nD τ) a1 fullShare x ∗ owns (c : Thread nD τ) a2 fullShare w
            ∗ (∃ Y, owns (c : Thread nD τ) a3 fullShare Y)) -∗ K ⟨⟩))
      ⊢ wp frame (wpE (defs₀ (F := F)) Variants.none c none) E (cc0__matmul_block i a1 h1 a2 h2 a3 h3) K := by
  rw [cc0__matmul_block_eq_skeleton]; unfold cc0__matmul_block_skel
  unfold owns
  iintro ⟨⟨%f1, %hf1, H1⟩, ⟨%f2, %hf2, H2⟩, ⟨%Y, %f3, %hf3, H3⟩, Hk⟩
  obtain rfl := h1.eq_unread hf1; obtain rfl := h2.eq_unread hf2
  sl_exec
  sl_step
  iapply Hk
  isplitl [H1]
  · iexists _; isplitr; · ipureintro; exact h1.read_unread _
    iexact H1
  isplitl [H2]
  · iexists _; isplitr; · ipureintro; exact h2.read_unread _
    iexact H2
  iexists _, _; isplitr; swap; · iexact H3
  ipureintro; rfl

variable (m : (ℓ : Loc nD τ sig) → Buf (Elt F) ℓ) (ρ : Dev nD → PrngReg)

/-- The output window, the one of which nothing is said. -/
def unsaid : Fin 3 → Bool := fun w => w.val == 2

/-- The launch's proof data on core `c`: each array as the host line before the launch leaves it, and each input's staging buffer at its
    block after every point. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Dat.unnamed (cfg := cfg0) ⟨2, h⟩ t
  Φ _ := Pipeline.ΦA spec0 c
  q _ := fullShare
  owed _ := 0

/-- The arrays are as the host line before the launch leaves them. -/
theorem dat_A (c : Dev nD) (w : Fin cfg0.W) : (dat m 0 c).A w = V m c (Pipeline.arrRef spec0 w) := by dsimp only [dat]

/-- After each point the first input's staging buffer holds its block. -/
theorem dat_after_0 (c : Dev nD) (t : Fin cfg0.N) : (dat m 0 c).after 0 t = iblk m c 0 t := by dsimp only [dat]

/-- After each point the second input's staging buffer holds its block. -/
theorem dat_after_1 (c : Dev nD) (t : Fin cfg0.N) : (dat m 0 c).after 1 t = iblk m c 1 t := by dsimp only [dat]

/-- The body at point `t` finds the inputs' blocks in place and leaves them so, whatever the output block holds. -/
theorem body_point (c : Dev nD) (t : Fin cfg0.N) :
    iprop((dat m 0 c).Φ t.castSucc ∗ (dat m 0 c).owesAt () t.castSucc
        ∗ (∃ d, owns (c : Thread nD τ) (st0_0 t) fullShare ((dat m 0 c).before 0 t d))
        ∗ (∃ d, owns (c : Thread nD τ) (st0_1 t) fullShare ((dat m 0 c).before 1 t d))
        ∗ (∃ Y, owns (c : Thread nD τ) (st0_2 t) fullShare Y))
      ⊢ wp frame (wpE (defs₀ (F := F)) Variants.none c none) Set.univ (bodyAt0 t) fun _ =>
        (iprop((dat m 0 c).Φ t.succ ∗ (dat m 0 c).owesAt () t.succ
          ∗ owns (c : Thread nD τ) (st0_0 t) fullShare ((dat m 0 c).after 0 t)
          ∗ owns (c : Thread nD τ) (st0_1 t) fullShare ((dat m 0 c).after 1 t)
          ∗ (∃ Y, owns (c : Thread nD τ) (st0_2 t) fullShare Y)) : sProp 𝕄) := by
  simp only [before0_0_of m (dat m 0 c) (dat_A m c 0) (dat_after_0 m c), before0_1_of m (dat m 0 c) (dat_A m c 1) (dat_after_1 m c)]
  rw [show (dat m 0 c).Φ t.succ = (dat m 0 c).Φ t.castSucc from rfl,
    show (dat m 0 c).owesAt () t.succ = (dat m 0 c).owesAt () t.castSucc from rfl, dat_after_0, dat_after_1]
  iintro ⟨HΦ, Ho, ⟨%d0, H0⟩, ⟨%d1, H1⟩, H2⟩
  iapply (body_safe c (grid0.coords t) _ _ _ _ _ _ (iblk m c 0 t) (iblk m c 1 t) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

/-- The launch calls, at point `t`, the body on that point's staging buffers. -/
theorem row_eq (t : Fin cfg0.N) : defs₀ (F := F) .tc cfg0.body (cfg0.bodyArgs t (cfg0.slots t)) = bodyAt0 t := by
  unfold defs₀; rw [Defs.onTc_tc]

/-- The launch's demand on the body, at every point. -/
theorem body_all (c : Dev nD) :
    Pipeline.BodyObligation (dat (F := F) m 0 c) (defs₀ (F := F)) Variants.none () Set.univ unsaid := fun t => by
  rw [bigSep_W0, bigSep_W0, row_eq]
  exact triple_restated (body_point m c t) rfl .rfl fun _ => .rfl

set_option backward.isDefEq.respectTransparency.types false in
/-- The launch runs to its end from any memory with zero counters, the inputs' arrays as they were, and every counter is zero again. -/
theorem launched : θ_run defs (onTc (τ := τ) (main (F := F))) (s₀ m ρ)
    (fun r => RDat.FramePost (cfgs 0) (fun c => (dat m 0 c).toRForget unsaid) (V m) r ∧ r.2.sem = fun _ => 0) :=
  Pipeline.θ_run_frame_forget (Q' := _) cfgs (dat m) (0 : Fin 1) launch0 defs₀ Variants.none unsaid m ρ main
    (hbody := fun c => (body_all m c).loose) (hshare := fun c => (dat m 0 c).share_full fun _ => rfl)
    (howed := fun _ _ => rfl) (V := V m) (hmain := hmain m Variants.none) (hA := dat_A m) (hΦ := fun _ _ => rfl)

/-- The kernel runs to its end from any memory with zero counters: the two arguments are as they were and every semaphore counter is
    zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c =>
    ⟨((h.1 c).2 main_arg0 (Pipeline.mem_restRefs_of main_arg0 (by decide) (by decide))).trans (V_main_arg0 m c),
      (RDat.FramePost.arr_in h.1 c 1 rfl).trans ((dat_A m c 1).trans (V_main_arg1 m c))⟩, h.2⟩) (launched m ρ)

end Cert.Kernel.Rows

end
-- ==== Proof.lean ====
/-
  THE CLAIMS about the row-tiled product of a 4096 x 4096 and a 4096 x 64 array: the three frames, `preserves`, and the equation
  of the kernel with one whole product over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.KernelFrame
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: it runs to its end, its two arguments as they were, every semaphore counter at zero. -/
theorem reference_frame : Cert.quiescent_ReferenceIdeal := fun m ρ _ =>
  (θ_run _ _ _).mono (fun r h => ⟨fun c => (h c).2, sem_eq_zero_of_no_sems (by decide) r.2⟩)
    (Cert.ReferenceIdeal.Value.run m ρ)

/-- Over the extended reals the kernel and the reference, run on the same arguments, end with the same result: their product. -/
theorem equation : Cert.algebraic_KernelIdeal_ReferenceIdeal := fun m ρ m' ρ' _ hargs =>
  ⟨Cert.KernelIdeal.Rows.target m,
    (θ_run _ _ _).mono (fun _ h c => ⟨Cert.KernelIdeal.Rows.filled_eq m c _ (h.1 c).1, (h.1 c).2⟩) (Cert.KernelIdeal.Rows.run m ρ),
    (θ_run _ _ _).mono (fun _ h c => ⟨(h c).1.trans (by rw [(hargs c).1, (hargs c).2]), (h c).2⟩)
      (Cert.ReferenceIdeal.Value.run m' ρ')⟩

/-- All five claims: the three frames, the idealized kernel the same program as the kernel, and the equation with the reference. -/
theorem claim : Cert.Claim := ⟨Cert.Kernel.Gen.facts, Cert.KernelIdeal.Gen.facts, Cert.ReferenceIdeal.Gen.facts,
  fun m ρ _ => Cert.Kernel.Rows.run m ρ,
  fun m ρ _ => (θ_run _ _ _).mono (fun _ h => ⟨fun c => (h.1 c).2, h.2⟩) (Cert.KernelIdeal.Rows.run m ρ),
  reference_frame, trivial, equation⟩

end Cert.Proof

end
